-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_norm_distributes [hPre_batch_norm_distributes : Cert.Pre_batch_norm_distributes.Facts] (m : (ℓ : Loc Cert.KernelIdeal.nD Cert.KernelIdeal.τ Cert.KernelIdeal.sig) → Buf (Elt Ideal) ℓ) : Prop :=
  ∀ c : Dev Cert.KernelIdeal.nD,
    (Cert.Pre_batch_norm_distributes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_norm_distributes [hPre_batch_norm_distributes : Cert.Pre_batch_norm_distributes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_norm_distributes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_batch_norm_distributes [hKernelIdeal : Cert.KernelIdeal.Facts] [hPre_batch_norm_distributes : Cert.Pre_batch_norm_distributes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_norm_distributes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_batch_norm_distributes [hReferenceIdeal : Cert.ReferenceIdeal.Facts] [hPre_batch_norm_distributes : Cert.Pre_batch_norm_distributes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_norm_distributes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_batch_norm_distributes [hKernelIdeal : Cert.KernelIdeal.Facts] [hReferenceIdeal : Cert.ReferenceIdeal.Facts] [hPre_batch_norm_distributes : Cert.Pre_batch_norm_distributes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_norm_distributes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_batch_norm_distributes : Cert.Pre_batch_norm_distributes.Facts),
    quiescent_Kernel (hKernel := hKernel)
    ∧ quiescent_KernelIdeal (hKernelIdeal := hKernelIdeal)
    ∧ quiescent_KernelIdeal_pre_batch_norm_distributes (hKernelIdeal := hKernelIdeal) (hPre_batch_norm_distributes := hPre_batch_norm_distributes)
    ∧ quiescent_ReferenceIdeal (hReferenceIdeal := hReferenceIdeal)
    ∧ quiescent_ReferenceIdeal_pre_batch_norm_distributes (hReferenceIdeal := hReferenceIdeal) (hPre_batch_norm_distributes := hPre_batch_norm_distributes)
    ∧ preserves_Kernel_KernelIdeal
    ∧ algebraic_KernelIdeal_ReferenceIdeal_pre_batch_norm_distributes (hKernelIdeal := hKernelIdeal) (hReferenceIdeal := hReferenceIdeal) (hPre_batch_norm_distributes := hPre_batch_norm_distributes)
-- ==== Pre_batch_norm_distributes.lean ====
abbrev S256x32x128 : Shape := ⟨3, ![256, 32, 128]⟩
abbrev S256x992x16 : Shape := ⟨3, ![256, 992, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S256x32x128 : S_.BroadcastsInDim S256x32x128 (![] : Fin 0 → Fin S256x32x128.rank)
  reducesTo_S256x32x128_S_d0_1_2 : S256x32x128.ReducesTo [0, 1, 2] S_
  h_S_ : 0 < S_.numel
  bcast_S_S256x992x16 : S_.BroadcastsInDim S256x992x16 (![] : Fin 0 → Fin S256x992x16.rank)
  reducesTo_S256x992x16_S_d0_1_2 : S256x992x16.ReducesTo [0, 1, 2] S_
  bcast_S_S272x256 : S_.BroadcastsInDim S272x256 (![] : Fin 0 → Fin S272x256.rank)
  reducesTo_S272x256_S256_d0 : S272x256.ReducesTo [0] S256
  bcast_S_S256 : S_.BroadcastsInDim S256 (![] : Fin 0 → Fin S256.rank)

variable [Facts]

def fn_part1 {F : FTy → Type} [FloatOps F] (main_arg4 : FVec F S256 .f32) (main_v14 : IVec S256 1) (main_v15 : FVec F S256 .f32) (main_v16 : FVec F S256 .f32) : IVec S256 1 :=
  let main_v17 : IVec S256 1 := cmpf .olt main_v15 main_v16
  let main_v18 : IVec S256 1 := andi main_v14 main_v17
  let main_v19 : FVec F S256 .f32 := Host.absf main_arg4
  let main_cst_5 : FVec F S_ .f32 := constant S_ .f32 0x7F800000#32
  let main_v20 : FVec F S256 .f32 := broadcastInDim S256 ![] bcast_S_S256 main_cst_5
  let main_v21 : IVec S256 1 := cmpf .olt main_v19 main_v20
  let main_cst_6 : FVec F S_ .f32 := constant S_ .f32 0x00000000#32
  let main_v22 : FVec F S256 .f32 := broadcastInDim S256 ![] bcast_S_S256 main_cst_6
  let main_v23 : IVec S256 1 := cmpf .oge main_arg4 main_v22
  let main_v24 : IVec S256 1 := ori main_v23 main_v18
  let main_v25 : IVec S256 1 := andi main_v21 main_v24
  main_v25

def fn {F : FTy → Type} [FloatOps F] (main_arg0 : FVec F S256x32x128 .f32) (main_arg1 : FVec F S256x992x16 .f32) (main_arg2 : FVec F S272x256 .f32) (main_arg3 : FVec F S256 .f32) (main_arg4 : FVec F S256 .f32) (main_arg5 : FVec F S256 .f32) (main_arg6 : FVec F S256x128 .f32) (main_arg7 : FVec F S128 .f32) : IVec S256 1 :=
  let main_v0 : FVec F S256x32x128 .f32 := Host.absf main_arg0
  let main_cst : FVec F S_ .f32 := constant S_ .f32 0x7F800000#32
  let main_v1 : FVec F S256x32x128 .f32 := broadcastInDim S256x32x128 ![] bcast_S_S256x32x128 main_cst
  let main_v2 : IVec S256x32x128 1 := cmpf .olt main_v0 main_v1
  let main_c : IVec S_ 1 := constantI S_ 1 1#1
  let main_v3 : IVec S_ 1 := (fun x v => Host.reduce IntOp.andi x v reducesTo_S256x32x128_S_d0_1_2 h_S_) main_v2 main_c
  let main_v4 : FVec F S256x992x16 .f32 := Host.absf main_arg1
  let main_cst_0 : FVec F S_ .f32 := constant S_ .f32 0x7F800000#32
  let main_v5 : FVec F S256x992x16 .f32 := broadcastInDim S256x992x16 ![] bcast_S_S256x992x16 main_cst_0
  let main_v6 : IVec S256x992x16 1 := cmpf .olt main_v4 main_v5
  let main_c_1 : IVec S_ 1 := constantI S_ 1 1#1
  let main_v7 : IVec S_ 1 := (fun x v => Host.reduce IntOp.andi x v reducesTo_S256x992x16_S_d0_1_2 h_S_) main_v6 main_c_1
  let main_v8 : IVec S_ 1 := andi main_v3 main_v7
  let main_v9 : FVec F S272x256 .f32 := Host.absf main_arg2
  let main_cst_2 : FVec F S_ .f32 := constant S_ .f32 0x7F800000#32
  let main_v10 : FVec F S272x256 .f32 := broadcastInDim S272x256 ![] bcast_S_S272x256 main_cst_2
  let main_v11 : IVec S272x256 1 := cmpf .olt main_v9 main_v10
  let main_c_3 : IVec S_ 1 := constantI S_ 1 1#1
  let main_v12 : IVec S256 1 := (fun x v => Host.reduce IntOp.andi x v reducesTo_S272x256_S256_d0 h_S_) main_v11 main_c_3
  let main_v13 : IVec S256 1 := broadcastInDim S256 ![] bcast_S_S256 main_v8
  let main_v14 : IVec S256 1 := andi main_v13 main_v12
  let main_v15 : FVec F S256 .f32 := Host.absf main_arg3
  let main_cst_4 : FVec F S_ .f32 := constant S_ .f32 0x7F800000#32
  let main_v16 : FVec F S256 .f32 := broadcastInDim S256 ![] bcast_S_S256 main_cst_4
  fn_part1 (F := F) main_arg4 main_v14 main_v15 main_v16
-- ==== Kernel.lean ====
abbrev S256x32x128 : Shape := ⟨3, ![256, 32, 128]⟩
abbrev S256x992x16 : Shape := ⟨3, ![256, 992, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S_ : Shape := ⟨0, ![]⟩
abbrev S1x256 : Shape := ⟨2, ![1, 256]⟩
abbrev S128x256 : Shape := ⟨2, ![128, 256]⟩
abbrev S16x256 : Shape := ⟨2, ![16, 256]⟩
abbrev S1x128 : Shape := ⟨2, ![1, 128]⟩
abbrev S8x32x128 : Shape := ⟨3, ![8, 32, 128]⟩
abbrev S8x992x16 : Shape := ⟨3, ![8, 992, 16]⟩
abbrev S8x1024x16 : Shape := ⟨3, ![8, 1024, 16]⟩
abbrev S256x256 : Shape := ⟨2, ![256, 256]⟩
abbrev S8x32x16 : Shape := ⟨3, ![8, 32, 16]⟩
abbrev S8192x16 : Shape := ⟨2, ![8192, 16]⟩
abbrev S8192x256 : Shape := ⟨2, ![8192, 256]⟩
abbrev S8x32x32x256 : Shape := ⟨4, ![8, 32, 32, 256]⟩
abbrev S8x32x1x256 : Shape := ⟨4, ![8, 32, 1, 256]⟩
abbrev S8x1x32x256 : Shape := ⟨4, ![8, 1, 32, 256]⟩
abbrev S8x32x256 : Shape := ⟨3, ![8, 32, 256]⟩

abbrev nBuf : Space → Nat
  | .hbm => 26
  | .vmem => 13
  | .smem => 0
  | _ => 0

abbrev bufTy : (tb : Table) → Fin (tcTables nBuf tb) → BufTy
  | .hbm, ⟨0, _⟩ => ⟨S256x32x128, .f32⟩
  | .hbm, ⟨1, _⟩ => ⟨S256x992x16, .f32⟩
  | .hbm, ⟨2, _⟩ => ⟨S272x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S_, .f32⟩
  | .hbm, ⟨9, _⟩ => ⟨S_, .f32⟩
  | .hbm, ⟨10, _⟩ => ⟨S256, .f32⟩
  | .hbm, ⟨11, _⟩ => ⟨S256, .f32⟩
  | .hbm, ⟨12, _⟩ => ⟨S1x256, .f32⟩
  | .hbm, ⟨13, _⟩ => ⟨S272x256, .f32⟩
  | .hbm, ⟨14, _⟩ => ⟨S272x256, .f32⟩
  | .hbm, ⟨15, _⟩ => ⟨S128x256, .f32⟩
  | .hbm, ⟨16, _⟩ => ⟨S128x256, .f32⟩
  | .hbm, ⟨17, _⟩ => ⟨S16x256, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S1x128, .f32⟩
  | .hbm, ⟨25, _⟩ => ⟨S256x32x128, .f32⟩
  | .local _ .vmem, ⟨0, _⟩ => ⟨S8x32x128, .f32⟩
  | .local _ .vmem, ⟨1, _⟩ => ⟨S8x32x128, .f32⟩
  | .local _ .vmem, ⟨2, _⟩ => ⟨S8x992x16, .f32⟩
  | .local _ .vmem, ⟨3, _⟩ => ⟨S8x992x16, .f32⟩
  | .local _ .vmem, ⟨4, _⟩ => ⟨S128x256, .f32⟩
  | .local _ .vmem, ⟨5, _⟩ => ⟨S128x256, .f32⟩
  | .local _ .vmem, ⟨6, _⟩ => ⟨S16x256, .f32⟩
  | .local _ .vmem, ⟨7, _⟩ => ⟨S1x256, .f32⟩
  | .local _ .vmem, ⟨8, _⟩ => ⟨S256x128, .f32⟩
  | .local _ .vmem, ⟨9, _⟩ => ⟨S1x128, .f32⟩
  | .local _ .vmem, ⟨10, _⟩ => ⟨S8x32x128, .f32⟩
  | .local _ .vmem, ⟨11, _⟩ => ⟨S8x32x128, .f32⟩
  | .local _ .vmem, ⟨12, _⟩ => ⟨S8x1024x16, .f32⟩
  | _, _ => ⟨S256x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_cst_0 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_v0 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x992x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S256x32x128 : Shape := ⟨3, ![256, 32, 128]⟩
abbrev S256x992x16 : Shape := ⟨3, ![256, 992, 16]⟩
abbrev S272x256 : Shape := ⟨2, ![272, 256]⟩
abbrev S256 : Shape := ⟨1, ![256]⟩
abbrev S256x128 : Shape := ⟨2, ![256, 128]⟩
abbrev S128 : Shape := ⟨1, ![128]⟩
abbrev S1024 : Shape := ⟨1, ![1024]⟩
abbrev S992 : Shape := ⟨1, ![992]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S256x1024x128 : Shape := ⟨3, ![256, 1024, 128]⟩
abbrev S256x1024x256 : Shape := ⟨3, ![256, 1024, 256]⟩
abbrev S256x1024x16 : Shape := ⟨3, ![256, 1024, 16]⟩
abbrev S992x1 : Shape := ⟨2, ![992, 1]⟩
abbrev S256x1024x272 : Shape := ⟨3, ![256, 1024, 272]⟩
abbrev S1x1x256 : Shape := ⟨3, ![1, 1, 256]⟩
abbrev S1x1x128 : Shape := ⟨3, ![1, 1, 128]⟩

abbrev nBuf : Space → Nat
  | .hbm => 108
  | .vmem => 0
  | .smem => 0
  | _ => 0

abbrev bufTy : (tb : Table) → Fin (tcTables nBuf tb) → BufTy
  | .hbm, ⟨0, _⟩ => ⟨S256x32x128, .f32⟩
  | .hbm, ⟨1, _⟩ => ⟨S256x992x16, .f32⟩
  | .hbm, ⟨2, _⟩ => ⟨S272x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256x128, .f32⟩
  | .hbm, ⟨7, _⟩ => ⟨S128, .f32⟩
  | .hbm, ⟨8, _⟩ => ⟨S1024, .i32⟩
  | .hbm, ⟨9, _⟩ => ⟨S1024, .i32⟩
  | .hbm, ⟨10, _⟩ => ⟨S992, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S1024x1, .i32⟩
  | .hbm, ⟨19, _⟩ => ⟨S1, .i32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1x1, .i32⟩
  | .hbm, ⟨24, _⟩ => ⟨S1024x1, .i32⟩
  | .hbm, ⟨25, _⟩ => ⟨S1024x1, .i1⟩
  | .hbm, ⟨26, _⟩ => ⟨S1024x1, .i1⟩
  | .hbm, ⟨27, _⟩ => ⟨S_, .i1⟩
  | .hbm, ⟨28, _⟩ => ⟨S1024, .i1⟩
  | .hbm, ⟨29, _⟩ => ⟨S256x1024x128, .f32⟩
  | .hbm, ⟨30, _⟩ => ⟨S256x1024x128, .i1⟩
  | .hbm, ⟨31, _⟩ => ⟨S_, .f32⟩
  | .hbm, ⟨32, _⟩ => ⟨S256x1024x128, .f32⟩
  | .hbm, ⟨33, _⟩ => ⟨S256x1024x128, .f32⟩
  | .hbm, ⟨34, _⟩ => ⟨S_, .i32⟩
  | .hbm, ⟨35, _⟩ => ⟨S1024, .i32⟩
  | .hbm, ⟨36, _⟩ => ⟨S1024, .i1⟩
  | .hbm, ⟨37, _⟩ => ⟨S_, .i32⟩
  | .hbm, ⟨38, _⟩ => ⟨S1024, .i32⟩
  | .hbm, ⟨39, _⟩ => ⟨S1024, .i32⟩
  | .hbm, ⟨40, _⟩ => ⟨S1024, .i32⟩
  | .hbm, ⟨41, _⟩ => ⟨S1024x1, .i32⟩
  | .hbm, ⟨42, _⟩ => ⟨S1, .i32⟩
  | .hbm, ⟨43, _⟩ => ⟨S_, .i32⟩
  | .hbm, ⟨44, _⟩ => ⟨S1024x1, .i32⟩
  | .hbm, ⟨45, _⟩ => ⟨S1024x1, .i1⟩
  | .hbm, ⟨46, _⟩ => ⟨S1x1, .i32⟩
  | .hbm, ⟨47, _⟩ => ⟨S1024x1, .i32⟩
  | .hbm, ⟨48, _⟩ => ⟨S1024x1, .i1⟩
  | .hbm, ⟨49, _⟩ => ⟨S1024x1, .i1⟩
  | .hbm, ⟨50, _⟩ => ⟨S_, .i1⟩
  | .hbm, ⟨51, _⟩ => ⟨S1024, .i1⟩
  | .hbm, ⟨52, _⟩ => ⟨S256x1024x128, .f32⟩
  | .hbm, ⟨53, _⟩ => ⟨S256x1024x128, .i1⟩
  | .hbm, ⟨54, _⟩ => ⟨S_, .f32⟩
  | .hbm, ⟨55, _⟩ => ⟨S256x1024x128, .f32⟩
  | .hbm, ⟨56, _⟩ => ⟨S256x1024x128, .f32⟩
  | .hbm, ⟨57, _⟩ => ⟨S256x1024x256, .f32⟩
  | .hbm, ⟨58, _⟩ => ⟨S_, .f32⟩
  | .hbm, ⟨59, _⟩ => ⟨S256x1024x16, .f32⟩
  | .hbm, ⟨60, _⟩ => ⟨S_, .i32⟩
  | .hbm, ⟨61, _⟩ => ⟨S992, .i32⟩
  | .hbm, ⟨62, _⟩ => ⟨S992, .i1⟩
  | .hbm, ⟨63, _⟩ => ⟨S_, .i32⟩
  | .hbm, ⟨64, _⟩ => ⟨S992, .i32⟩
  | .hbm, ⟨65, _⟩ => ⟨S992, .i32⟩
  | .hbm, ⟨66, _⟩ => ⟨S992, .i32⟩
  | .hbm, ⟨67, _⟩ => ⟨S992x1, .i32⟩
  | .hbm, ⟨68, _⟩ => ⟨S256x1024x16, .f32⟩
  | .hbm, ⟨69, _⟩ => ⟨S256x1024x272, .f32⟩
  | .hbm, ⟨70, _⟩ => ⟨S256x1024x256, .f32⟩
  | .hbm, ⟨71, _⟩ => ⟨S1x1x256, .f32⟩
  | .hbm, ⟨72, _⟩ => ⟨S256x1024x256, .f32⟩
  | .hbm, ⟨73, _⟩ => ⟨S256x1024x256, .f32⟩
  | .hbm, ⟨74, _⟩ => ⟨S_, .f32⟩
  | .hbm, ⟨75, _⟩ => ⟨S256x1024x256, .f32⟩
  | .hbm, ⟨76, _⟩ => ⟨S256x1024x256, .f32⟩
  | .hbm, ⟨77, _⟩ => ⟨S_, .f32⟩
  | .hbm, ⟨78, _⟩ => ⟨S_, .f32⟩
  | .hbm, ⟨79, _⟩ => ⟨S256x1024x256, .f32⟩
  | .hbm, ⟨80, _⟩ => ⟨S256x1024x256, .f32⟩
  | .hbm, ⟨81, _⟩ => ⟨S1x1x256, .f32⟩
  | .hbm, ⟨82, _⟩ => ⟨S256x1024x256, .f32⟩
  | .hbm, ⟨83, _⟩ => ⟨S256x1024x256, .f32⟩
  | .hbm, ⟨84, _⟩ => ⟨S1x1x256, .f32⟩
  | .hbm, ⟨85, _⟩ => ⟨S256x1024x256, .f32⟩
  | .hbm, ⟨86, _⟩ => ⟨S256x1024x256, .f32⟩
  | .hbm, ⟨87, _⟩ => ⟨S_, .f32⟩
  | .hbm, ⟨88, _⟩ => ⟨S256x1024x256, .f32⟩
  | .hbm, ⟨89, _⟩ => ⟨S256x1024x256, .f32⟩
  | .hbm, ⟨90, _⟩ => ⟨S256x1024x128, .f32⟩
  | .hbm, ⟨91, _⟩ => ⟨S1x1x128, .f32⟩
  | .hbm, ⟨92, _⟩ => ⟨S256x1024x128, .f32⟩
  | .hbm, ⟨93, _⟩ => ⟨S256x1024x128, .f32⟩
  | .hbm, ⟨94, _⟩ => ⟨S_, .f32⟩
  | .hbm, ⟨95, _⟩ => ⟨S256x32x128, .f32⟩
  | .hbm, ⟨96, _⟩ => ⟨S_, .i32⟩
  | .hbm, ⟨97, _⟩ => ⟨S1024, .i32⟩
  | .hbm, ⟨98, _⟩ => ⟨S1024, .i1⟩
  | .hbm, ⟨99, _⟩ => ⟨S_, .i32⟩
  | .hbm, ⟨100, _⟩ => ⟨S1024, .i32⟩
  | .hbm, ⟨101, _⟩ => ⟨S1024, .i32⟩
  | .hbm, ⟨102, _⟩ => ⟨S1024, .i32⟩
  | .hbm, ⟨103, _⟩ => ⟨S1024x1, .i32⟩
  | .hbm, ⟨104, _⟩ => ⟨S256x32x128, .f32⟩
  | .hbm, ⟨105, _⟩ => ⟨S_, .f32⟩
  | .hbm, ⟨106, _⟩ => ⟨S256x32x128, .f32⟩
  | .hbm, ⟨107, _⟩ => ⟨S256x32x128, .f32⟩
  | _, _ => ⟨S256x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v0 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v1 : Ref sig .tc := ⟨.hbm, 56, rfl⟩
abbrev main_v2 : Ref sig .tc := ⟨.hbm, 57, rfl⟩
abbrev main_cst : Ref sig .tc := ⟨.hbm, 58, rfl⟩
abbrev main_v3 : Ref sig .tc := ⟨.hbm, 59, rfl⟩
abbrev main_c_2 : Ref sig .tc := ⟨.hbm, 60, rfl⟩
abbrev main_v4 : Ref sig .tc := ⟨.hbm, 61, rfl⟩
abbrev main_v5 : Ref sig .tc := ⟨.hbm, 62, rfl⟩
abbrev main_c_3 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_v9 : Ref sig .tc := ⟨.hbm, 67, rfl⟩
abbrev main_v10 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_cst_4 : Ref sig .tc := ⟨.hbm, 74, rfl⟩
abbrev main_v16 : Ref sig .tc := ⟨.hbm, 75, rfl⟩
abbrev main_v17 : Ref sig .tc := ⟨.hbm, 76, rfl⟩
abbrev main_cst_5 : Ref sig .tc := ⟨.hbm, 77, rfl⟩
abbrev main_v18 : Ref sig .tc := ⟨.hbm, 78, rfl⟩
abbrev main_v19 : Ref sig .tc := ⟨.hbm, 79, rfl⟩
abbrev main_v20 : Ref sig .tc := ⟨.hbm, 80, rfl⟩
abbrev main_v21 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_v25 : Ref sig .tc := ⟨.hbm, 85, rfl⟩
abbrev main_v26 : Ref sig .tc := ⟨.hbm, 86, rfl⟩
abbrev main_call2_cst : Ref sig .tc := ⟨.hbm, 87, rfl⟩
abbrev main_call2_v0 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_cst_6 : Ref sig .tc := ⟨.hbm, 94, rfl⟩
abbrev main_v32 : Ref sig .tc := ⟨.hbm, 95, rfl⟩
abbrev main_c_7 : Ref sig .tc := ⟨.hbm, 96, rfl⟩
abbrev main_v33 : Ref sig .tc := ⟨.hbm, 97, rfl⟩
abbrev main_v34 : Ref sig .tc := ⟨.hbm, 98, rfl⟩
abbrev main_c_8 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_call3_cst : Ref sig .tc := ⟨.hbm, 105, rfl⟩
abbrev main_call3_v0 : Ref sig .tc := ⟨.hbm, 106, rfl⟩
abbrev main_v40 : Ref sig .tc := ⟨.hbm, 107, rfl⟩

abbrev nD : Nat := 1
abbrev τ : Topo := Topo.v7x

variable {F : FTy → Type} [FloatOps F]
-- ==== Proof.Laws.lean ====
/- Laws of the extended reals that the comparison of the two programs rests on. -/
module

public import Idealize.ShloMosaic.PureOps.Ideal
public import Mathlib.Data.EReal.Operations

@[expose] public section

namespace Cert.Mlp

open scoped BigOperators

/-- An extended real that is a real number. -/
def Finite (x : EReal) : Prop := x ≠ ⊥ ∧ x ≠ ⊤

/-- A real number is finite. -/
theorem finite_coe (r : ℝ) : Finite (r : EReal) := ⟨EReal.coe_ne_bot r, EReal.coe_ne_top r⟩

/-- A finite extended real is a real number. -/
theorem Finite.real {x : EReal} (h : Finite x) : ∃ r : ℝ, x = (r : EReal) :=
  ⟨x.toReal, (EReal.coe_toReal h.2 h.1).symm⟩

/-- Zero is finite. -/
theorem finite_zero : Finite (0 : EReal) := finite_coe 0

/-- The sum of two finite numbers is finite. -/
theorem Finite.add {x y : EReal} (hx : Finite x) (hy : Finite y) : Finite (x + y) := by
  obtain ⟨a, rfl⟩ := hx.real
  obtain ⟨b, rfl⟩ := hy.real
  rw [← EReal.coe_add]
  exact finite_coe _

/-- The product of two finite numbers is finite. -/
theorem Finite.mul {x y : EReal} (hx : Finite x) (hy : Finite y) : Finite (x * y) := by
  obtain ⟨a, rfl⟩ := hx.real
  obtain ⟨b, rfl⟩ := hy.real
  rw [← EReal.coe_mul]
  exact finite_coe _

/-- A sum of finite numbers is finite. -/
theorem Finite.sum {ι : Type} (s : Finset ι) {f : ι → EReal} (h : ∀ k, Finite (f k)) : Finite (∑ k ∈ s, f k) :=
  Finset.sum_induction f Finite (fun _ _ => Finite.add) finite_zero fun k _ => h k

/-- A finite scale multiplies a sum of two term by term if it is not negative, or if the two terms are finite. -/
theorem add_mul_scale {G x y : EReal} (hG : Finite G) (h : 0 ≤ G ∨ (Finite x ∧ Finite y)) : (x + y) * G = x * G + y * G := by
  rcases h with h | ⟨hx, hy⟩
  · exact EReal.right_distrib_of_nonneg_of_ne_top h hG.2 x y
  · obtain ⟨a, rfl⟩ := hx.real
    obtain ⟨b, rfl⟩ := hy.real
    obtain ⟨g, rfl⟩ := hG.real
    simp only [← EReal.coe_add, ← EReal.coe_mul, add_mul]

/-- A finite scale multiplies a finite sum term by term if it is not negative, or if all terms are finite. -/
theorem sum_mul_scale {ι : Type} (s : Finset ι) {f : ι → EReal} {G : EReal} (hG : Finite G) (h : 0 ≤ G ∨ ∀ k, Finite (f k)) :
    (∑ k ∈ s, f k) * G = ∑ k ∈ s, f k * G := by
  classical
  induction s using Finset.induction_on with
  | empty => simp only [Finset.sum_empty, zero_mul]
  | insert a s ha ih =>
    rw [Finset.sum_insert ha, Finset.sum_insert ha, add_mul_scale hG (h.imp_right fun hf => ⟨hf a, Finite.sum s hf⟩), ih]

/-- A scale may be moved into the second factors of a sum of products. -/
theorem dot_mul_scale {ι : Type} (s : Finset ι) {x w : ι → EReal} {G : EReal} (hG : Finite G)
    (h : 0 ≤ G ∨ ∀ k, Finite (x k) ∧ Finite (w k)) : (∑ k ∈ s, x k * w k) * G = ∑ k ∈ s, x k * (w k * G) := by
  rw [sum_mul_scale s hG (h.imp_right fun hf k => (hf k).1.mul (hf k).2)]
  exact Finset.sum_congr rfl fun k _ => mul_assoc _ _ _

/-- A sum of numbers that are not negative times any number is the sum of the products. -/
theorem sum_nonneg_mul {ι : Type} (s : Finset ι) {f : ι → EReal} (hf : ∀ k, 0 ≤ f k) (w : EReal) :
    (∑ k ∈ s, f k) * w = ∑ k ∈ s, f k * w := by
  classical
  induction s using Finset.induction_on with
  | empty => simp only [Finset.sum_empty, zero_mul]
  | insert a s ha ih =>
    rw [Finset.sum_insert ha, Finset.sum_insert ha, EReal.right_distrib_of_nonneg (hf a) (Finset.sum_nonneg fun k _ => hf k), ih]

/-- The same number added up is the number of terms times it. -/
theorem sum_const_mul (n : ℕ) (x : EReal) : ∑ _k : Fin n, x = ((n : ℝ) : EReal) * x := by
  induction n with
  | zero => simp
  | succ n ih =>
    rw [Fin.sum_univ_castSucc, ih, Nat.cast_succ, EReal.coe_add,
      EReal.right_distrib_of_nonneg (EReal.coe_nonneg.2 (Nat.cast_nonneg n)) (EReal.coe_nonneg.2 zero_le_one), EReal.coe_one, one_mul]

end Cert.Mlp
-- ==== Proof.Spec.lean ====
/- The edge network as numbers: what the kernel computes per output element, what the reference computes, and that the two agree. -/
module

public import proofs.«01_k».proof.Proof.Laws

@[expose] public section

namespace Cert.Mlp

open scoped BigOperators

/-- The directed edge that leads from node `i` to node `j`, in row-major order of the pair. -/
def edge (i j : Fin 32) : Fin 1024 := ⟨32 * i.val + j.val, by omega⟩

/-- The place, among the 992 edges that are not self loops, of the edge `e`. -/
def place (e : Fin 1024) (h : ¬ e.val % 33 = 0) : Fin 992 := ⟨32 * (e.val / 33) + e.val % 33 - 1, by omega⟩

/-- A value per edge that is not a self loop, spread over all edges with zero at the self loops. -/
noncomputable def spread (row : Fin 992 → EReal) (e : Fin 1024) : EReal := if h : e.val % 33 = 0 then 0 else row (place e h)

variable (nf : Fin 32 → Fin 128 → EReal) (ef : Fin 992 → Fin 16 → EReal) (W1 : Fin 272 → Fin 256 → EReal) (b1 γ β : Fin 256 → EReal)
  (W2 : Fin 256 → Fin 128 → EReal) (b2 : Fin 128 → EReal) (c : EReal)

/-- The row of the first weights that meets the source node's feature `k`. -/
def rowS (k : Fin 128) : Fin 272 := ⟨k.val, by omega⟩
/-- The row of the first weights that meets the target node's feature `k`. -/
def rowD (k : Fin 128) : Fin 272 := ⟨128 + k.val, by omega⟩
/-- The row of the first weights that meets the edge feature `d`. -/
def rowE (d : Fin 16) : Fin 272 := ⟨256 + d.val, by omega⟩

/-- The normalized first layer before its relu, as the reference has it: bias, no running mean, scale `c * γ`, shift `β`. -/
noncomputable def preR (i j : Fin 32) (h : Fin 256) : EReal :=
  (∑ k, nf i k * W1 (rowS k) h + ∑ k, nf j k * W1 (rowD k) h + ∑ d, spread (fun q => ef q d) (edge i j) * W1 (rowE d) h + b1 h - 0) * c * γ h + β h

/-- The same number as the kernel has it: the scale folded into the weights and the bias. -/
noncomputable def preK (i j : Fin 32) (h : Fin 256) : EReal :=
  ∑ d, spread (fun q => ef q d) (edge i j) * (W1 (rowE d) h * (c * γ h))
    + (∑ k, nf i k * (W1 (rowS k) h * (c * γ h)) + (b1 h * (c * γ h) + β h)) + ∑ k, nf j k * (W1 (rowD k) h * (c * γ h))

/-- The output of node `i` in the reference: messages per edge, added over the edges that leave `i`, then a relu. -/
noncomputable def outR (i : Fin 32) (o : Fin 128) : EReal :=
  max (∑ j, (∑ h, max (preR nf ef W1 b1 γ β c i j h) 0 * W2 h o + b2 o)) 0

/-- The output of node `i` in the kernel: hidden values added over the target nodes first, then one product with the second weights. -/
noncomputable def outK (i : Fin 32) (o : Fin 128) : EReal :=
  max (∑ h, (∑ j, max (preK nf ef W1 b1 γ β c i j h) 0) * W2 h o + ((32 : ℝ) : EReal) * b2 o) 0

/-- The kernel adds its five terms in another order than the reference. -/
theorem reorder (A B E b s : EReal) : E + (A + (b + s)) + B = A + B + E + b + s := by ac_rfl

/-- Folding the scale into weights and bias is right where the scale is not negative or all that it multiplies is finite. -/
theorem preK_eq_preR (i j : Fin 32) (h : Fin 256) (hG : Finite (c * γ h))
    (hs : 0 ≤ c * γ h ∨ (∀ i k, Finite (nf i k)) ∧ (∀ q d, Finite (ef q d)) ∧ (∀ k, Finite (W1 k h)) ∧ Finite (b1 h)) :
    preK nf ef W1 b1 γ β c i j h = preR nf ef W1 b1 γ β c i j h := by
  have hsp : (∀ q d, Finite (ef q d)) → ∀ d, Finite (spread (fun q => ef q d) (edge i j)) := fun hf d => by
    unfold spread
    split
    · exact finite_zero
    · exact hf _ d
  have hA : ∀ i', 0 ≤ c * γ h ∨ ∀ k, Finite (nf i' k) ∧ Finite (W1 (rowS k) h) := fun i' =>
    hs.imp_right fun q k => ⟨q.1 i' k, q.2.2.1 _⟩
  have hB : ∀ i', 0 ≤ c * γ h ∨ ∀ k, Finite (nf i' k) ∧ Finite (W1 (rowD k) h) := fun i' =>
    hs.imp_right fun q k => ⟨q.1 i' k, q.2.2.1 _⟩
  have hE : 0 ≤ c * γ h ∨ ∀ d, Finite (spread (fun q => ef q d) (edge i j)) ∧ Finite (W1 (rowE d) h) :=
    hs.imp_right fun q d => ⟨hsp q.2.1 d, q.2.2.1 _⟩
  have fA := (hA i).imp_right fun q => Finite.sum Finset.univ fun k => (q k).1.mul (q k).2
  have fB := (hB j).imp_right fun q => Finite.sum Finset.univ fun k => (q k).1.mul (q k).2
  have fE := hE.imp_right fun q => Finite.sum Finset.univ fun k => (q k).1.mul (q k).2
  have fb := hs.imp_right fun q => q.2.2.2
  have and2 : ∀ {P Q : Prop}, (0 ≤ c * γ h ∨ P) → (0 ≤ c * γ h ∨ Q) → 0 ≤ c * γ h ∨ P ∧ Q := fun p q =>
    p.elim Or.inl fun a => q.imp_right fun b => ⟨a, b⟩
  have fAB := (and2 fA fB).imp_right fun q => q.1.add q.2
  have fABE := (and2 fAB fE).imp_right fun q => q.1.add q.2
  unfold preK preR
  rw [sub_zero, mul_assoc, add_mul_scale hG (and2 fABE fb), add_mul_scale hG (and2 fAB fE), add_mul_scale hG (and2 fA fB),
    dot_mul_scale _ hG (hA i), dot_mul_scale _ hG (hB j), dot_mul_scale _ hG hE]
  exact reorder _ _ _ _ _

/-- The kernel's output is the reference's wherever the scale of every channel may be folded. -/
theorem outK_eq_outR (i : Fin 32) (o : Fin 128) (hG : ∀ h, Finite (c * γ h))
    (hs : ∀ h, 0 ≤ c * γ h ∨ (∀ i k, Finite (nf i k)) ∧ (∀ q d, Finite (ef q d)) ∧ (∀ k, Finite (W1 k h)) ∧ Finite (b1 h)) :
    outK nf ef W1 b1 γ β W2 b2 c i o = outR nf ef W1 b1 γ β W2 b2 c i o := by
  unfold outK outR
  congr 1
  rw [Finset.sum_add_distrib, Finset.sum_comm, sum_const_mul]
  congr 1
  refine Finset.sum_congr rfl fun h _ => ?_
  rw [sum_nonneg_mul _ fun j => le_max_right _ _]
  exact Finset.sum_congr rfl fun j _ => by rw [preK_eq_preR nf ef W1 b1 γ β c i j h (hG h) (hs h)]

end Cert.Mlp
-- ==== Proof.Scratch.lean ====
/- What the kernel's scratch holds after its 31 copies: the block's edge features spread over all edges, zero at the self loops. -/
module

public import proofs.«01_k».proof.Proof.Spec
public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen Cert.Mlp Idealize.ShloMosaic Idealize.ShloMosaic.TcCoe Idealize.SL.Sem

/-- A list of writes to the scratch, last first. -/
abbrev Writes := List (View.Piece (Elt Ideal) S8x1024x16 EltTy.f32)

/-- The scratch after `k` copies: spread features in the first `33 * k` rows, zero below. -/
def Stage (E : FVec Ideal S8x992x16 .f32) (L : Writes) (k : ℕ) : Prop :=
  ∀ (a : Fin 8) (r : Fin 1024) (d : Fin 16),
    View.canon L (ix3 a r d) = if 33 * k ≤ r.val then (0 : EReal) else spread (fun q => E (ix3 a q d)) r

/-- Where a block of whole rows from row `q` on has its rows: its row `i` is row `q + i`. -/
theorem emb_rows {A B C Q q : ℕ} (inb : ∀ a, ![0, q, 0] a + ![A, Q, C] a ≤ (⟨3, ![A, B, C]⟩ : Shape).size a) (a : Fin A) (i : Fin Q) (d : Fin C)
    (r : Fin B) (hr : q + i.val = r.val) :
    (Rect.unit (s := ⟨3, ![A, B, C]⟩) ![0, q, 0] ![A, Q, C] inb).emb (ix3 a i d) = ix3 a r d := by
  funext x
  apply Fin.ext
  rw [Rect.emb_apply]
  match x with
  | 0 => show 0 + 1 * a.val = a.val; omega
  | 1 => show q + 1 * i.val = r.val; omega
  | 2 => show 0 + 1 * d.val = d.val; omega

/-- The zero fill is the stage before any copy. -/
theorem stage_zero (E : FVec Ideal S8x992x16 .f32) (inb : ∀ a, ![0, 0, 0] a + S8x1024x16.size a ≤ S8x1024x16.size a) :
    Stage E [⟨Rect.unit ![0, 0, 0] S8x1024x16.size inb, k0_pay4 (F := Ideal)⟩] 0 := by
  intro a r d
  rw [if_pos (by omega), ← emb_rows (q := 0) inb a r d r (by omega), View.canon_cons_emb]
  unfold k0_pay4
  pointwise

/-- One more copy, of 32 rows of features to the 32 rows after a self loop, is one more stage. -/
theorem stage_succ (E : FVec Ideal S8x992x16 .f32) (L : Writes) (k p q : ℕ) (h : Stage E L k) (hp : p = 33 * k + 1) (hq : q = 32 * k)
    (inb : ∀ a, ![0, p, 0] a + ![8, 32, 16] a ≤ S8x1024x16.size a) (inb' : ∀ a, ![0, q, 0] a + ![8, 32, 16] a ≤ S8x992x16.size a)
    (hc) :
    Stage E (⟨Rect.unit ![0, p, 0] ![8, 32, 16] inb,
      shapeCast S8x32x16 (View.ld (Val := Elt Ideal) (e' := EltTy.f32) E (Rect.unit ![0, q, 0] ![8, 32, 16] inb')) hc⟩ :: L) (k + 1) := by
  subst hp hq
  intro a r d
  by_cases hr : 33 * k + 1 ≤ r.val ∧ r.val < 33 * k + 33
  · have hin : 33 * k + 33 ≤ 1024 := by have := inb 1; exact this
    rw [if_neg (by omega), ← emb_rows inb a (⟨r.val - (33 * k + 1), by omega⟩ : Fin 32) d r (by show _ + (r.val - _) = _; omega),
      View.canon_cons_emb]
    refine (congrFun (shapeCast_self (s := S8x32x16) _ hc) _).trans ?_
    unfold spread
    rw [dif_neg (by omega)]
    exact congrArg E (emb_rows inb' a (⟨r.val - (33 * k + 1), by omega⟩ : Fin 32) d (place r (by omega))
      (by show _ + (r.val - _) = 32 * (r.val / 33) + r.val % 33 - 1; omega))
  · have hm : (ix3 a r d : S8x1024x16.Idx) ∉ (Rect.unit (s := S8x1024x16) ![0, 33 * k + 1, 0] ![8, 32, 16] inb).set := fun hm => hr (by
      have h1 : 33 * k + 1 ≤ r.val ∧ r.val < 33 * k + 1 + 32 := Rect.mem_set_unit.1 hm 1
      omega)
    refine (View.canon_cons_of_not_mem ⟨Rect.unit _ _ inb, _⟩ L hm).trans ((h a r d).trans ?_)
    by_cases h1 : 33 * k ≤ r.val
    · rw [if_pos h1]
      split
      · rfl
      · unfold spread
        rw [dif_pos (by omega)]
    · rw [if_neg h1, if_neg (by omega)]

end Cert.KernelIdeal.Hand
-- ==== Proof.Block.lean ====
/- What one grid point of the kernel writes: its payload over the block's inputs and the spread edge features. -/
module

public import proofs.«01_k».proof.Proof.Scratch

@[expose] public section

set_option maxRecDepth 16384

noncomputable section

namespace Cert.KernelIdeal.Hand

open Cert.KernelIdeal Cert.KernelIdeal.Gen Cert.Mlp Idealize.ShloMosaic Idealize.ShloMosaic.TcCoe Idealize.SL.Sem
open Idealize.ShloMosaic.Pipeline (Dat)

variable (m : (ℓ : Loc nD τ sig) → Buf (Elt Ideal) ℓ)

/-- A block's edge features spread over all edges of its batches. -/
def full (E : FVec Ideal S8x992x16 .f32) : FVec Ideal S8x1024x16 .f32 := fun y => spread (fun q => E (ix3 (y 0) q (y 2))) (y 1)

/-- A load of the whole scratch after all 31 copies is the spread features. -/
theorem load_full (E : FVec Ideal S8x992x16 .f32) (L : Writes) (h : Stage E L 31) (inb : ∀ a, ![0, 0, 0] a + ![8, 1024, 16] a ≤ S8x1024x16.size a) :
    (fun j => View.canon L ((Rect.unit (s := S8x1024x16) ![0, 0, 0] ![8, 1024, 16] inb).toLoadRect.idx j)) = full E := by
  funext y
  obtain ⟨a, r, d, rfl⟩ : ∃ (a : Fin 8) (r : Fin 1024) (d : Fin 16), y = ix3 a r d := ⟨y 0, y 1, y 2, eq_ix3 y⟩
  refine (congrArg (View.canon L) (emb_rows (q := 0) inb a r d r (by omega))).trans ((h a r d).trans ?_)
  show _ = spread (fun q => E (ix3 a q d)) r
  split
  · unfold spread
    rw [dif_pos (by omega)]
  · rfl

/-- The block a grid point writes, as a function of its windows. -/
theorem block (c : Dev nD) (t : Fin cfg0.N) :
    outsAt0 m c t = k0_pay36 (k0_pay2 (iblk m c 0 t) (iblk m c 2 t) (iblk m c 5 t)) (k0_pay3 (iblk m c 0 t) (iblk m c 3 t))
      (full (iblk m c 1 t)) (iblk m c 4 t) (iblk m c 6 t) (iblk m c 7 t) := by
  unfold outsAt0
  frame_open
  frame_out
  refine congrArg (fun X => k0_pay36 _ _ X _ _ _) ?_
  rw [View.readCov_eq_canon']
  refine load_full (iblk m c 1 t) _ ?_ _
  iterate 31 refine stage_succ _ _ _ _ _ ?_ (by rfl) (by rfl) _ _ _
  exact stage_zero _ _

end Cert.KernelIdeal.Hand
-- ==== Proof.Payload.lean ====
/- The payload of a grid point at one output element. -/
module

public import proofs.«01_k».proof.Proof.Block

@[expose] public section

set_option maxRecDepth 16384

noncomputable section

namespace Cert.KernelIdeal.Hand

open Cert.KernelIdeal Cert.KernelIdeal.Gen Cert.Mlp Idealize.ShloMosaic Idealize.ShloMosaic.TcCoe Idealize.SL.Sem

/-- The payload at batch `a`, node `i` and output channel `o`. -/
theorem payload (X : FVec Ideal S8x32x128 .f32) (F : FVec Ideal S8x1024x16 .f32) (ws wd : FVec Ideal S128x256 .f32) (we : FVec Ideal S16x256 .f32)
    (bg : FVec Ideal S1x256 .f32) (w2 : FVec Ideal S256x128 .f32) (bt : FVec Ideal S1x128 .f32) (a : Fin 8) (i : Fin 32) (o : Fin 128) :
    k0_pay36 (k0_pay2 X ws bg) (k0_pay3 X wd) F we w2 bt (ix3 a i o)
      = max (∑ h : Fin 256, (∑ j : Fin 32, max (∑ d : Fin 16, F (ix3 a (edge i j) d) * we (ix2 d h)
          + (∑ k : Fin 128, X (ix3 a i k) * ws (ix2 k h) + bg (ix2 0 h)) + ∑ k : Fin 128, X (ix3 a j k) * wd (ix2 k h)) 0) * w2 (ix2 h o) + bt (ix2 0 o)) 0 := by
  unfold k0_pay36 k0_pay2 k0_pay3
  pointwise [k0_pay1]
  have he : ∀ (j : Fin 32) (hj : (a.val * 1024 + i.val * 32 + j.val) % 1024 < 1024), (⟨(a.val * 1024 + i.val * 32 + j.val) % 1024, hj⟩ : Fin 1024) = edge i j :=
    fun j _ => Fin.ext (by show _ % 1024 = 32 * i.val + j.val; omega)
  simp only [he]

end Cert.KernelIdeal.Hand
-- ==== Proof.Arrays.lean ====
/- The network as a function of whole arrays, for the kernel and for the reference, and the two float constants they use. -/
module

public import proofs.«01_k».proof.Proof.Spec
public import Idealize.ShloMosaic.Lib.Pipeline.ValueKit

@[expose] public section

noncomputable section

namespace Cert.Mlp

open Idealize.ShloMosaic

/-- The scale of the running variance one: the reciprocal square root of the float `1.001`. -/
def rs : EReal := Ideal.rsqrt (Ideal.ofBits FTy.f32 0x3F8020C5#32)

/-- The float `1.001` is a positive real number. -/
theorem var_real : ∃ r : ℝ, 0 < r ∧ Ideal.ofBits FTy.f32 0x3F8020C5#32 = (r : EReal) := by
  refine ⟨8396997 / 8388608, by positivity, ?_⟩
  simp [Ideal.ofBits, Ideal.ieee]
  rw [← EReal.coe_mul]
  norm_num

/-- The scale of the running variance is a positive real number. -/
theorem rs_real : ∃ r : ℝ, 0 < r ∧ rs = (r : EReal) := by
  obtain ⟨v, hv, e⟩ := var_real
  refine ⟨(Real.sqrt v)⁻¹, inv_pos.2 (Real.sqrt_pos.2 hv), ?_⟩
  unfold rs
  rw [e]
  show (if v < 0 then (⊥ : EReal) else if v = 0 then ⊤ else _) = _
  rw [if_neg hv.not_gt, if_neg hv.ne']

/-- The float `32.0` is the number 32. -/
theorem thirty_two : Ideal.ofBits FTy.f32 0x42000000#32 = ((32 : ℝ) : EReal) := by
  simp [Ideal.ofBits, Ideal.ieee]
  rw [← EReal.coe_mul]
  norm_num

variable (nf : FVec Ideal ⟨3, ![256, 32, 128]⟩ .f32) (ef : FVec Ideal ⟨3, ![256, 992, 16]⟩ .f32) (w1 : FVec Ideal ⟨2, ![272, 256]⟩ .f32)
  (b1 γ β : FVec Ideal ⟨1, ![256]⟩ .f32) (w2 : FVec Ideal ⟨2, ![256, 128]⟩ .f32) (b2 : FVec Ideal ⟨1, ![128]⟩ .f32)

/-- The kernel's result at batch `b`, node `i` and output channel `o`. -/
def netK (b : Fin 256) (i : Fin 32) (o : Fin 128) : EReal :=
  outK (fun i k => nf (ix3 b i k)) (fun q d => ef (ix3 b q d)) (fun r h => w1 (ix2 r h)) (fun h => b1 (ix1 h)) (fun h => γ (ix1 h))
    (fun h => β (ix1 h)) (fun h o => w2 (ix2 h o)) (fun o => b2 (ix1 o)) rs i o

/-- The reference's result at batch `b`, node `i` and output channel `o`. -/
def netR (b : Fin 256) (i : Fin 32) (o : Fin 128) : EReal :=
  outR (fun i k => nf (ix3 b i k)) (fun q d => ef (ix3 b q d)) (fun r h => w1 (ix2 r h)) (fun h => b1 (ix1 h)) (fun h => γ (ix1 h))
    (fun h => β (ix1 h)) (fun h o => w2 (ix2 h o)) (fun o => b2 (ix1 o)) rs i o

/-- The two networks agree where every channel's scale is finite and is not negative or meets finite numbers only. -/
theorem netK_eq_netR (hγ : ∀ h, Finite (γ h))
    (hs : ∀ h, 0 ≤ γ h ∨ (∀ y, Finite (nf y)) ∧ (∀ y, Finite (ef y)) ∧ (∀ k : Fin 272, Finite (w1 (ix2 k (h 0)))) ∧ Finite (b1 h))
    (b : Fin 256) (i : Fin 32) (o : Fin 128) : netK nf ef w1 b1 γ β w2 b2 b i o = netR nf ef w1 b1 γ β w2 b2 b i o := by
  obtain ⟨r, hr, e⟩ := rs_real
  refine outK_eq_outR _ _ _ _ _ _ _ _ _ i o (fun h => ?_) fun h => ?_
  · rw [e]
    exact (finite_coe r).mul (hγ _)
  · refine (hs (ix1 h)).imp (fun q => ?_) fun q => ⟨fun _ _ => q.1 _, fun _ _ => q.2.1 _, q.2.2.1, q.2.2.2⟩
    rw [e]
    exact mul_nonneg (EReal.coe_nonneg.2 hr.le) q

end Cert.Mlp
-- ==== Proof.KernelValue.lean ====
/- The kernel's result array as one function of its arguments. -/
module

public import proofs.«01_k».proof.Proof.Payload
public import proofs.«01_k».proof.Proof.Arrays

@[expose] public section

set_option maxRecDepth 16384

noncomputable section

namespace Cert.KernelIdeal.Hand

open Cert.KernelIdeal Cert.KernelIdeal.Gen Cert.Mlp Idealize.ShloMosaic Idealize.ShloMosaic.TcCoe Idealize.SL.Sem
open Idealize.ShloMosaic.Pipeline (Dat)

variable (m : (ℓ : Loc nD τ sig) → Buf (Elt Ideal) ℓ)

/-- Which block each window reads or writes at a grid point: batches for the features and the result, the whole of every other operand. -/
theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0] :=
  (by decide +kernel : ∀ t : Fin grid0.N, _)

/-- The node features. -/
abbrev nf (c : Dev nD) : FVec Ideal S256x32x128 .f32 := m ((c : Thread nD τ).loc main_arg0)
/-- The edge features. -/
abbrev ef (c : Dev nD) : FVec Ideal S256x992x16 .f32 := m ((c : Thread nD τ).loc main_arg1)
/-- The first weights. -/
abbrev w1 (c : Dev nD) : FVec Ideal S272x256 .f32 := m ((c : Thread nD τ).loc main_arg2)
/-- The first bias. -/
abbrev b1 (c : Dev nD) : FVec Ideal S256 .f32 := m ((c : Thread nD τ).loc main_arg3)
/-- The scale of the normalization. -/
abbrev gam (c : Dev nD) : FVec Ideal S256 .f32 := m ((c : Thread nD τ).loc main_arg4)
/-- The shift of the normalization. -/
abbrev bet (c : Dev nD) : FVec Ideal S256 .f32 := m ((c : Thread nD τ).loc main_arg5)
/-- The second weights. -/
abbrev w2 (c : Dev nD) : FVec Ideal S256x128 .f32 := m ((c : Thread nD τ).loc main_arg6)
/-- The second bias. -/
abbrev b2 (c : Dev nD) : FVec Ideal S128 .f32 := m ((c : Thread nD τ).loc main_arg7)

/-- The scaled weights of the source node, as the host computes it. -/
def opWs (c : Dev nD) : FVec Ideal S128x256 .f32 := V m c main_call0_v6
/-- The scaled weights of the target node, as the host computes it. -/
def opWd (c : Dev nD) : FVec Ideal S128x256 .f32 := V m c main_call0_v7
/-- The scaled weights of the edge, as the host computes it. -/
def opWe (c : Dev nD) : FVec Ideal S16x256 .f32 := V m c main_call0_v8
/-- The scaled and shifted bias, as the host computes it. -/
def opBg (c : Dev nD) : FVec Ideal S1x256 .f32 := V m c main_call0_v11
/-- 32 times the second bias, as the host computes it. -/
def opBt (c : Dev nD) : FVec Ideal S1x128 .f32 := V m c main_call0_v14

/-- The scaled weights of the source node at an entry. -/
theorem opWs_at (c : Dev nD) (k : Fin 128) (h : Fin 256) : opWs m c (ix2 k h) = w1 m c (ix2 (rowS k) h) * (rs * gam m c (ix1 h)) := by
  unfold opWs
  entry_read
  simp only [StableHlo.TRef.ofBuf_toBuf]
  simp only [StableHlo.TRef.toBuf, StableHlo.TRef.ofBuf, cast_eq]
  pointwise
  rfl

/-- The scaled weights of the target node at an entry. -/
theorem opWd_at (c : Dev nD) (k : Fin 128) (h : Fin 256) : opWd m c (ix2 k h) = w1 m c (ix2 (rowD k) h) * (rs * gam m c (ix1 h)) := by
  unfold opWd
  entry_read
  simp only [StableHlo.TRef.ofBuf_toBuf]
  simp only [StableHlo.TRef.toBuf, StableHlo.TRef.ofBuf, cast_eq]
  pointwise
  rfl

/-- The scaled weights of the edge at an entry. -/
theorem opWe_at (c : Dev nD) (k : Fin 16) (h : Fin 256) : opWe m c (ix2 k h) = w1 m c (ix2 (rowE k) h) * (rs * gam m c (ix1 h)) := by
  unfold opWe
  entry_read
  simp only [StableHlo.TRef.ofBuf_toBuf]
  simp only [StableHlo.TRef.toBuf, StableHlo.TRef.ofBuf, cast_eq]
  pointwise
  rfl

/-- The scaled and shifted bias at an entry. -/
theorem opBg_at (c : Dev nD) (h : Fin 256) : opBg m c (ix2 0 h) = b1 m c (ix1 h) * (rs * gam m c (ix1 h)) + bet m c (ix1 h) := by
  unfold opBg
  entry_read
  simp only [StableHlo.TRef.ofBuf_toBuf]
  simp only [StableHlo.TRef.toBuf, StableHlo.TRef.ofBuf, cast_eq]
  pointwise
  rfl

/-- 32 times the second bias at an entry. -/
theorem opBt_at (c : Dev nD) (o : Fin 128) : opBt m c (ix2 0 o) = ((32 : ℝ) : EReal) * b2 m c (ix1 o) := by
  unfold opBt
  entry_read
  simp only [StableHlo.TRef.ofBuf_toBuf]
  simp only [StableHlo.TRef.toBuf, StableHlo.TRef.ofBuf, cast_eq]
  pointwise
  rw [thirty_two]

/-- Window 2 holds its whole operand at every grid point. -/
theorem blk2 (c : Dev nD) (t : Fin cfg0.N) : iblk m c 2 t = opWs m c := by
  unfold opWs
  funext y
  blk_ext [iblk, idx t]

/-- Window 3 holds its whole operand at every grid point. -/
theorem blk3 (c : Dev nD) (t : Fin cfg0.N) : iblk m c 3 t = opWd m c := by
  unfold opWd
  funext y
  blk_ext [iblk, idx t]

/-- Window 4 holds its whole operand at every grid point. -/
theorem blk4 (c : Dev nD) (t : Fin cfg0.N) : iblk m c 4 t = opWe m c := by
  unfold opWe
  funext y
  blk_ext [iblk, idx t]

/-- Window 5 holds its whole operand at every grid point. -/
theorem blk5 (c : Dev nD) (t : Fin cfg0.N) : iblk m c 5 t = opBg m c := by
  unfold opBg
  funext y
  blk_ext [iblk, idx t]

/-- Window 6 holds its whole operand at every grid point. -/
theorem blk6 (c : Dev nD) (t : Fin cfg0.N) : iblk m c 6 t = w2 m c := by
  funext y
  blk_ext [iblk, idx t]

/-- Window 7 holds its whole operand at every grid point. -/
theorem blk7 (c : Dev nD) (t : Fin cfg0.N) : iblk m c 7 t = opBt m c := by
  unfold opBt
  funext y
  blk_ext [iblk, idx t]

/-- Window 0 holds the node features of the point's eight batches. -/
theorem blk0_at (c : Dev nD) (t : Fin cfg0.N) (a : Fin 8) (i : Fin 32) (k : Fin 128) (b : Fin 256) (hb : b.val = 8 * t.val + a.val) :
    iblk m c 0 t (ix3 a i k) = nf m c (ix3 b i k) := by
  blk_ext [iblk, V, idx t]

/-- Window 1 holds the edge features of the point's eight batches. -/
theorem blk1_at (c : Dev nD) (t : Fin cfg0.N) (a : Fin 8) (q : Fin 992) (d : Fin 16) (b : Fin 256) (hb : b.val = 8 * t.val + a.val) :
    iblk m c 1 t (ix3 a q d) = ef m c (ix3 b q d) := by
  blk_ext [iblk, V, idx t]

/-- The kernel's result array. -/
def result (c : Dev nD) : FVec Ideal S256x32x128 .f32 := fun y =>
  netK (nf m c) (ef m c) (w1 m c) (b1 m c) (gam m c) (bet m c) (w2 m c) (b2 m c) (y 0) (y 1) (y 2)

/-- The spread features of a block are the spread features of the batch. -/
theorem full_at (c : Dev nD) (t : Fin cfg0.N) (a : Fin 8) (e : Fin 1024) (d : Fin 16) (b : Fin 256) (hb : b.val = 8 * t.val + a.val) :
    full (iblk m c 1 t) (ix3 a e d) = spread (fun q => ef m c (ix3 b q d)) e :=
  congrArg (fun f => spread f e) (funext fun q => blk1_at m c t a q d b hb)

/-- What a grid point writes at one element is the result array there. -/
theorem point (c : Dev nD) (t : Fin cfg0.N) (a : Fin 8) (i : Fin 32) (o : Fin 128) (b : Fin 256) (hb : b.val = 8 * t.val + a.val) :
    outsAt0 m c t (ix3 a i o) = result m c (ix3 b i o) := by
  rw [block, blk2, blk3, blk4, blk5, blk6, blk7, payload]
  simp only [opWs_at, opWd_at, opWe_at, opBg_at, opBt_at, full_at m c t a _ _ b hb, fun i k => blk0_at m c t a i k b hb]
  show _ = netK (nf m c) (ef m c) (w1 m c) (b1 m c) (gam m c) (bet m c) (w2 m c) (b2 m c) b i o
  unfold netK outK preK
  rfl

/-- The kernel's result array after the run. -/
theorem final (c : Dev nD) : (dats m 0 c).arrAt 8 cfg0.N = result m c := by
  refine (dats m 0 c).arrAt_eq_of_covers 8 _ (by decide +kernel) fun t _ y => ?_
  blk_simp
  rw [after0_8]
  have ht : t.val < 32 := t.isLt
  obtain ⟨a, i, o, rfl⟩ : ∃ (a : Fin 8) (i : Fin 32) (o : Fin 128), y = ix3 a i o := ⟨y 0, y 1, y 2, eq_ix3 y⟩
  refine (point m c t a i o ⟨8 * t.val + a.val, by omega⟩ rfl).trans ?_
  generalize result m c = R
  blk_ext [idx t]

end Cert.KernelIdeal.Hand
-- ==== Proof.Moves.lean ====
/- The reference's gathers and scatters read at an element, and its three index tables in closed form. -/
module

public import proofs.«01_k».proof.Proof.Gen.ReferenceIdeal.Run
public import proofs.«01_k».proof.Proof.Spec
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.ReferenceIdeal.Hand

open Cert.ReferenceIdeal Cert.ReferenceIdeal.Gen Cert.Mlp Idealize.ShloMosaic Idealize.ShloMosaic.TcCoe

/-- The source table names the node that edge `e` leaves. -/
theorem lit0_eq : ∀ e : Fin 1024, lit0 e = BitVec.ofNat 32 (e.val / 32) := by decide +kernel

/-- The target table names the node that edge `e` enters. -/
theorem lit1_eq : ∀ e : Fin 1024, lit1 e = BitVec.ofNat 32 (e.val % 32) := by decide +kernel

/-- The position table names the edge at place `q` among those that are not self loops. -/
theorem lit2_eq : ∀ q : Fin 992, lit2 q = BitVec.ofNat 32 (33 * (q.val / 32) + q.val % 32 + 1) := by decide +kernel

/-- A take along the node axis reads the node that the index word names. -/
theorem gather_at {α : Type} (x : S256x32x128.Idx → α) (idx : IVec S1024x1 32) (b : Fin 256) (e : Fin 1024) (k : Fin 128) (v : Fin 32)
    (hv : (idx (ix2 e 0)).toInt = v.val) :
    Host.gather gather_S256x32x128_S1024x1_S256x1024x128_02_1_n_n_1_1_2561128 x idx (ix3 b e k) = x (ix3 b v k) := by
  unfold Host.gather
  refine congrArg x (funext fun a => Fin.ext ?_)
  match a with
  | ⟨0, _⟩ => show 0 + 0 + b.val = b.val; omega
  | ⟨1, _⟩ =>
    have he : GatherDims.siIdx gather_S256x32x128_S1024x1_S256x1024x128_02_1_n_n_1_1_2561128 (ix3 b e k) ⟨0, by decide⟩ = ix2 e 0 := by
      funext q
      refine Fin.ext ?_
      match q with
      | ⟨0, _⟩ => rfl
      | ⟨1, _⟩ => rfl
    refine (congrArg (fun z => min (idx z).toInt.toNat 31 + 0 + 0) he).trans ?_
    show min (idx (ix2 e 0)).toInt.toNat 31 + 0 + 0 = v.val
    rw [hv]
    omega
  | ⟨2, _⟩ => show 0 + 0 + k.val = k.val; omega

/-- The dimension numbers of a scatter along the middle axis: whole slabs of the outer axes, one index word per update. -/
abbrev midDims (A N C n : ℕ) (wf : ScatterDims.WF ⟨3, ![A, N, C]⟩ ⟨2, ![n, 1]⟩ ⟨3, ![A, n, C]⟩ [0, 2] [1] [1] 1) :
    ScatterDims ⟨3, ![A, N, C]⟩ ⟨2, ![n, 1]⟩ ⟨3, ![A, n, C]⟩ where
  updateWindowDims := [0, 2]
  insertedWindowDims := [1]
  scatterDimsToOperandDims := [1]
  indexVectorDim := 1
  wf := wf

/-- Where an update of such a scatter lands: in its own outer coordinates, in the middle at its index word. -/
theorem mid_lands {A N C n : ℕ} (wf) (idx : IVec ⟨2, ![n, 1]⟩ 32) (b b' : Fin A) (q : Fin n) (d d' : Fin C) (e : Fin N) :
    (midDims A N C n wf).resultIdx? (ix3 b q d) idx = some (ix3 b' e d') ↔ b = b' ∧ (idx (ix2 q 0)).toInt = e.val ∧ d = d' := by
  have he : ScatterDims.siIdx (midDims A N C n wf) (ix3 b q d) ⟨0, Nat.one_pos⟩ = ix2 q 0 := by
    funext x
    refine Fin.ext ?_
    match x with
    | ⟨0, _⟩ => rfl
    | ⟨1, _⟩ => rfl
  have h0 : (midDims A N C n wf).start (ix3 b q d) idx 0 = 0 := rfl
  have h1 : (midDims A N C n wf).start (ix3 b q d) idx 1 = (idx (ix2 q 0)).toInt := congrArg (fun z => (idx z).toInt) he
  have h2 : (midDims A N C n wf).start (ix3 b q d) idx 2 = 0 := rfl
  have w0 : (midDims A N C n wf).window (ix3 b q d) 0 = b.val := rfl
  have w1 : (midDims A N C n wf).window (ix3 b q d) 1 = 0 := rfl
  have w2 : (midDims A N C n wf).window (ix3 b q d) 2 = d.val := rfl
  rw [Routing.resultIdx?_eq_some]
  constructor
  · intro h
    have a0 : (midDims A N C n wf).start (ix3 b q d) idx 0 + ((midDims A N C n wf).window (ix3 b q d) 0 : ℤ) = (b'.val : ℤ) := h 0
    have a1 : (midDims A N C n wf).start (ix3 b q d) idx 1 + ((midDims A N C n wf).window (ix3 b q d) 1 : ℤ) = (e.val : ℤ) := h 1
    have a2 : (midDims A N C n wf).start (ix3 b q d) idx 2 + ((midDims A N C n wf).window (ix3 b q d) 2 : ℤ) = (d'.val : ℤ) := h 2
    rw [h0, w0] at a0
    rw [h1, w1] at a1
    rw [h2, w2] at a2
    exact ⟨Fin.ext (by omega), by omega, Fin.ext (by omega)⟩
  · rintro ⟨rfl, h, rfl⟩ x
    match x with
    | ⟨0, _⟩ => exact zero_add _
    | ⟨1, _⟩ => exact (add_zero _).trans (h1.trans h)
    | ⟨2, _⟩ => exact zero_add _

/-- The feature scatter puts the features at the edges that are not self loops and leaves the others. -/
theorem features_at (x : FVec Ideal S256x1024x16 .f32) (idx : IVec S992x1 32) (upd : FVec Ideal S256x992x16 .f32) (hx : ∀ y, x y = (0 : EReal))
    (hi : ∀ q : Fin 992, (idx (ix2 q 0)).toInt = ((33 * (q.val / 32) + q.val % 32 + 1 : ℕ) : ℤ)) (b : Fin 256) (e : Fin 1024) (d : Fin 16) :
    Host.scatter scatter_S256x1024x16_S992x1_S256x992x16_02_1_1_1 (fun _ v => v) x idx upd (ix3 b e d) = spread (fun q => upd (ix3 b q d)) e := by
  have lands := fun (b' : Fin 256) (q : Fin 992) (d' : Fin 16) =>
    mid_lands (A := 256) (N := 1024) (C := 16) (n := 992) scatter_S256x1024x16_S992x1_S256x992x16_02_1_1_1.wf idx b' b q d' d e
  unfold spread
  split
  · next h =>
    refine (Routing.scatter_set_miss _ x idx upd _ fun k hk => ?_).trans (hx _)
    obtain ⟨b', q, d', rfl⟩ : ∃ (b' : Fin 256) (q : Fin 992) (d' : Fin 16), k = ix3 b' q d' := ⟨k 0, k 1, k 2, eq_ix3 k⟩
    have h2 := ((lands b' q d').1 hk).2.1
    rw [hi q] at h2
    omega
  · next h =>
    refine Routing.scatter_set_hit _ x idx upd _ _ (fun k hk => ?_) (ix3 b (place e h) d) ((lands b (place e h) d).2 ⟨rfl, ?_, rfl⟩)
    · obtain ⟨b', q, d', rfl⟩ : ∃ (b' : Fin 256) (q : Fin 992) (d' : Fin 16), k = ix3 b' q d' := ⟨k 0, k 1, k 2, eq_ix3 k⟩
      obtain ⟨rfl, h2, rfl⟩ := (lands b' q d').1 hk
      rw [hi q] at h2
      have hq : q = place e h := Fin.ext (by show q.val = 32 * (e.val / 33) + e.val % 33 - 1; omega)
      rw [hq]
    · rw [hi]
      show ((33 * ((32 * (e.val / 33) + e.val % 33 - 1) / 32) + (32 * (e.val / 33) + e.val % 33 - 1) % 32 + 1 : ℕ) : ℤ) = e.val
      omega

/-- The message scatter adds up, per node, the messages of the edges that leave it. -/
theorem messages_at (x : FVec Ideal S256x32x128 .f32) (idx : IVec S1024x1 32) (upd : FVec Ideal S256x1024x128 .f32) (hx : ∀ y, x y = (0 : EReal))
    (hi : ∀ e : Fin 1024, (idx (ix2 e 0)).toInt = ((e.val / 32 : ℕ) : ℤ)) (b : Fin 256) (i : Fin 32) (o : Fin 128) :
    Host.scatterAdd scatter_S256x32x128_S1024x1_S256x1024x128_02_1_1_1 x idx upd (ix3 b i o) = ∑ j : Fin 32, upd (ix3 b (edge i j) o) := by
  have lands := fun (b' : Fin 256) (e : Fin 1024) (o' : Fin 128) =>
    mid_lands (A := 256) (N := 32) (C := 128) (n := 1024) scatter_S256x32x128_S1024x1_S256x1024x128_02_1_1_1.wf idx b' b e o' o i
  show x (ix3 b i o) + ∑ k ∈ Finset.univ.filter (fun k => (scatter_S256x32x128_S1024x1_S256x1024x128_02_1_1_1).resultIdx? k idx = some (ix3 b i o)), upd k = _
  rw [hx, zero_add]
  symm
  refine Finset.sum_bij (fun j _ => (ix3 b (edge i j) o : S256x1024x128.Idx)) (fun j _ => ?_) (fun j _ j' _ h => ?_) (fun k hk => ?_) fun j _ => rfl
  · refine Finset.mem_filter.2 ⟨Finset.mem_univ _, (lands b (edge i j) o).2 ⟨rfl, ?_, rfl⟩⟩
    rw [hi]
    show (((32 * i.val + j.val) / 32 : ℕ) : ℤ) = i.val
    omega
  · have h1 : (edge i j).val = (edge i j').val := congrArg (fun k : S256x1024x128.Idx => (k 1).val) h
    have h2 : 32 * i.val + j.val = 32 * i.val + j'.val := h1
    exact Fin.ext (by omega)
  · obtain ⟨b', e, o', rfl⟩ : ∃ (b' : Fin 256) (e : Fin 1024) (o' : Fin 128), k = ix3 b' e o' := ⟨k 0, k 1, k 2, eq_ix3 k⟩
    obtain ⟨rfl, h2, rfl⟩ := (lands b' e o').1 (Finset.mem_filter.1 hk).2
    rw [hi e] at h2
    refine ⟨⟨e.val % 32, by omega⟩, Finset.mem_univ _, ?_⟩
    rw [show edge i ⟨e.val % 32, by omega⟩ = e from Fin.ext (by show 32 * i.val + e.val % 32 = e.val; omega)]

end Cert.ReferenceIdeal.Hand
-- ==== Proof.RefValue.lean ====
/- The reference's result array as one function of its arguments. -/
module

public import proofs.«01_k».proof.Proof.Moves
public import proofs.«01_k».proof.Proof.Arrays

@[expose] public section

set_option maxRecDepth 16384

noncomputable section

namespace Cert.ReferenceIdeal.Hand

open Cert.ReferenceIdeal Cert.ReferenceIdeal.Gen Cert.ReferenceIdeal.Value Cert.Mlp Idealize.ShloMosaic Idealize.ShloMosaic.TcCoe

/-- A table of nodes, negative entries wrapped, one word per row. -/
def nodeWords (tab : Fin 1024 → BitVec 32) : IVec S1024x1 32 :=
  broadcastInDim S1024x1 ![0] bcast_S1024_S1024x1_0 (select (cmpi .slt ((fun i => tab (S1024.rowMajor i))) (broadcastInDim S1024 ![] bcast_S_S1024 (constantI S_ 32 0#32)))
    (addi ((fun i => tab (S1024.rowMajor i))) (broadcastInDim S1024 ![] bcast_S_S1024 (constantI S_ 32 32#32))) ((fun i => tab (S1024.rowMajor i))))

/-- The table of edges, negative entries wrapped, one word per row. -/
def edgeWords (tab : Fin 992 → BitVec 32) : IVec S992x1 32 :=
  broadcastInDim S992x1 ![0] bcast_S992_S992x1_0 (select (cmpi .slt ((fun i => tab (S992.rowMajor i))) (broadcastInDim S992 ![] bcast_S_S992 (constantI S_ 32 0#32)))
    (addi ((fun i => tab (S992.rowMajor i))) (broadcastInDim S992 ![] bcast_S_S992 (constantI S_ 32 1024#32))) ((fun i => tab (S992.rowMajor i))))

/-- A row of the node table holds the node that the table names. -/
theorem nodeWords_at (tab : Fin 1024 → BitVec 32) (f : Fin 1024 → Fin 32) (h : ∀ e, tab e = BitVec.ofNat 32 (f e).val) (e : Fin 1024) :
    nodeWords tab (ix2 e 0) = BitVec.ofNat 32 (f e).val := by
  have hr : tab (S1024.rowMajor (ix1 e)) = BitVec.ofNat 32 (f e).val := by
    rw [← h e]
    exact congrArg tab (Fin.ext (Shape.rowMajor_val_one _))
  unfold nodeWords
  pointwise
  rw [hr]
  exact Routing.wrap_of_lt _ _ (by rw [BitVec.toNat_ofNat]; omega)

/-- A row of the edge table holds the edge that the table names. -/
theorem edgeWords_at (tab : Fin 992 → BitVec 32) (f : Fin 992 → Fin 1024) (h : ∀ q, tab q = BitVec.ofNat 32 (f q).val) (q : Fin 992) :
    edgeWords tab (ix2 q 0) = BitVec.ofNat 32 (f q).val := by
  have hr : tab (S992.rowMajor (ix1 q)) = BitVec.ofNat 32 (f q).val := by
    rw [← h q]
    exact congrArg tab (Fin.ext (Shape.rowMajor_val_one _))
  unfold edgeWords
  pointwise
  rw [hr]
  exact Routing.wrap_of_lt _ _ (by rw [BitVec.toNat_ofNat]; omega)

/-- A small word read signed is the number it was made from. -/
theorem toInt_small (n : ℕ) (h : n < 2048) : (BitVec.ofNat 32 n).toInt = (n : ℤ) := by
  have hn : (BitVec.ofNat 32 n).toNat = n := by rw [BitVec.toNat_ofNat]; omega
  rw [BitVec.toInt_eq_toNat_of_lt (by rw [hn]; omega), hn]

/-- The features of the nodes a table names, with a filler where a word is out of range. -/
def taken (x : FVec Ideal S256x32x128 .f32) (w : IVec S1024x1 32) : FVec Ideal S256x1024x128 .f32 :=
  select (broadcastInDim S256x1024x128 ![1] bcast_S1024_S256x1024x128_1 (Host.reduce IntOp.andi (andi (cmpi .sge w (broadcastInDim S1024x1 ![] bcast_S_S1024x1 (constantI S_ 32 0#32)))
    (cmpi .sle w (broadcastInDim S1024x1 ![0, 1] bcast_S1x1_S1024x1_0_1 (broadcastInDim S1x1 ![1] bcast_S1_S1x1_1 (constantI S1 32 31#32)))))
    (constantI S_ 1 1#1) reducesTo_S1024x1_S1024_d1 h_S_))
    (Host.gather gather_S256x32x128_S1024x1_S256x1024x128_02_1_n_n_1_1_2561128 x w) (broadcastInDim S256x1024x128 ![] bcast_S_S256x1024x128 (constant S_ .f32 0x7FC00000#32))

/-- The range check of a take holds for every node's word. -/
theorem in_range : ∀ v : Fin 32, IntOp.andi (IntOp.andi (IntOp.cmpi CmpIPredicate.sge (BitVec.ofNat 32 v.val) 0#32)
    (IntOp.cmpi CmpIPredicate.sle (BitVec.ofNat 32 v.val) 31#32)) 1#1 = 1#1 := by decide

/-- A take reads the features of the node that the word names. -/
theorem taken_at (x : FVec Ideal S256x32x128 .f32) (w : IVec S1024x1 32) (f : Fin 1024 → Fin 32) (hw : ∀ e, w (ix2 e 0) = BitVec.ofNat 32 (f e).val)
    (b : Fin 256) (e : Fin 1024) (k : Fin 128) : taken x w (ix3 b e k) = x (ix3 b (f e) k) := by
  unfold taken
  pointwise
  rw [gather_at x w b e k (f e) (by rw [hw, toInt_small _ (by omega)]), Finset.univ_unique, Finset.fold_singleton]
  show Scalar.select (IntOp.andi (IntOp.andi (IntOp.cmpi CmpIPredicate.sge (w (ix2 e 0)) 0#32) (IntOp.cmpi CmpIPredicate.sle (w (ix2 e 0)) 31#32)) 1#1) _ _ = _
  rw [hw, in_range]
  rfl

/-- The edges' inputs: source features, target features, edge features, side by side. -/
def inputs (xs xd : FVec Ideal S256x1024x128 .f32) (xe : FVec Ideal S256x1024x16 .f32) : FVec Ideal S256x1024x272 .f32 :=
  concatenate S256x1024x272 2 [⟨S256x1024x256, (concatenate S256x1024x256 2 [⟨S256x1024x128, xs⟩, ⟨S256x1024x128, xd⟩] concatenates_S256x1024x128_S256x1024x128_S256x1024x256_d2)⟩, ⟨S256x1024x16, xe⟩] concatenates_S256x1024x256_S256x1024x16_S256x1024x272_d2

/-- The messages: normalized first layer, relu, second layer. -/
def messages (xs xd : FVec Ideal S256x1024x128 .f32) (xe : FVec Ideal S256x1024x16 .f32) (w1 : FVec Ideal S272x256 .f32) (b1 γ β : FVec Ideal S256 .f32)
    (w2 : FVec Ideal S256x128 .f32) (b2 : FVec Ideal S128 .f32) : FVec Ideal S256x1024x128 .f32 :=
  addf (Host.dotGeneral dot_S256x1024x256_S256x128_S256x1024x128_2_0_01_1_n_n none (maximumf (addf (mulf (mulf (subf (addf (Host.dotGeneral dot_S256x1024x272_S272x256_S256x1024x256_2_0_01_1_n_n none
    (inputs xs xd xe) w1) (broadcastInDim S256x1024x256 ![0, 1, 2] bcast_S1x1x256_S256x1024x256_0_1_2 (broadcastInDim S1x1x256 ![2] bcast_S256_S1x1x256_2 b1)))
    (broadcastInDim S256x1024x256 ![] bcast_S_S256x1024x256 (constant S_ .f32 0x00000000#32))) (broadcastInDim S256x1024x256 ![] bcast_S_S256x1024x256 (Host.rsqrt (constant S_ .f32 0x3F8020C5#32))))
    (broadcastInDim S256x1024x256 ![0, 1, 2] bcast_S1x1x256_S256x1024x256_0_1_2 (broadcastInDim S1x1x256 ![2] bcast_S256_S1x1x256_2 γ)))
    (broadcastInDim S256x1024x256 ![0, 1, 2] bcast_S1x1x256_S256x1024x256_0_1_2 (broadcastInDim S1x1x256 ![2] bcast_S256_S1x1x256_2 β)))
    (broadcastInDim S256x1024x256 ![] bcast_S_S256x1024x256 (constant S_ .f32 0x00000000#32))) w2)
    (broadcastInDim S256x1024x128 ![0, 1, 2] bcast_S1x1x128_S256x1024x128_0_1_2 (broadcastInDim S1x1x128 ![2] bcast_S128_S1x1x128_2 b2))

/-- A message at one edge and output channel. -/
theorem message_at (xs xd : FVec Ideal S256x1024x128 .f32) (xe : FVec Ideal S256x1024x16 .f32) (w1 : FVec Ideal S272x256 .f32) (b1 γ β : FVec Ideal S256 .f32)
    (w2 : FVec Ideal S256x128 .f32) (b2 : FVec Ideal S128 .f32) (b : Fin 256) (e : Fin 1024) (o : Fin 128) :
    messages xs xd xe w1 b1 γ β w2 b2 (ix3 b e o)
      = ∑ h, max ((∑ k, xs (ix3 b e k) * w1 (ix2 (rowS k) h) + ∑ k, xd (ix3 b e k) * w1 (ix2 (rowD k) h) + ∑ d, xe (ix3 b e d) * w1 (ix2 (rowE d) h) + b1 (ix1 h) - 0)
          * rs * γ (ix1 h) + β (ix1 h)) 0 * w2 (ix2 h o) + b2 (ix1 o) := by
  unfold messages inputs
  pointwise
  rfl

variable (m : (ℓ : Loc nD τ sig) → Buf (Elt Ideal) ℓ)

/-- The reference's result is the relu of the added messages. -/
theorem res_eq (c : Dev nD) : res_out0 m c
    = maximumf (Host.scatterAdd scatter_S256x32x128_S1024x1_S256x1024x128_02_1_1_1 (broadcastInDim S256x32x128 ![] bcast_S_S256x32x128 (constant S_ .f32 0x00000000#32)) (nodeWords lit0)
      (messages (taken (m ((c.tc : Thread nD τ).loc main_arg0)) (nodeWords lit0)) (taken (m ((c.tc : Thread nD τ).loc main_arg0)) (nodeWords lit1))
        (Host.scatter scatter_S256x1024x16_S992x1_S256x992x16_02_1_1_1 (fun _ b => b) (broadcastInDim S256x1024x16 ![] bcast_S_S256x1024x16 (constant S_ .f32 0x00000000#32)) (edgeWords lit2)
          (m ((c.tc : Thread nD τ).loc main_arg1)))
        (m ((c.tc : Thread nD τ).loc main_arg2)) (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7))))
      (broadcastInDim S256x32x128 ![] bcast_S_S256x32x128 (constant S_ .f32 0x00000000#32)) := by
  unfold res_out0 res_main_v40
  rfl

/-- The reference's result array. -/
def result (c : Dev nD) : FVec Ideal S256x32x128 .f32 := fun y =>
  netR (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (y 0) (y 1) (y 2)

/-- The node an edge leaves. -/
def src (e : Fin 1024) : Fin 32 := ⟨e.val / 32, by omega⟩

/-- The node an edge enters. -/
def dst (e : Fin 1024) : Fin 32 := ⟨e.val % 32, by omega⟩

/-- The edge from `i` to `j` leaves `i`. -/
theorem src_edge (i j : Fin 32) : src (edge i j) = i := Fin.ext (by show (32 * i.val + j.val) / 32 = i.val; omega)

/-- The edge from `i` to `j` enters `j`. -/
theorem dst_edge (i j : Fin 32) : dst (edge i j) = j := Fin.ext (by show (32 * i.val + j.val) % 32 = j.val; omega)

/-- The reference's result array is the network of its arguments. -/
theorem final (c : Dev nD) : res_out0 m c = result m c := by
  have ws : ∀ e, nodeWords lit0 (ix2 e 0) = BitVec.ofNat 32 (src e).val := nodeWords_at lit0 src lit0_eq
  have wd : ∀ e, nodeWords lit1 (ix2 e 0) = BitVec.ofNat 32 (dst e).val := nodeWords_at lit1 dst lit1_eq
  have we : ∀ q, edgeWords lit2 (ix2 q 0) = BitVec.ofNat 32 (33 * (q.val / 32) + q.val % 32 + 1) :=
    edgeWords_at lit2 (fun q => ⟨33 * (q.val / 32) + q.val % 32 + 1, by omega⟩) lit2_eq
  have fe := features_at (broadcastInDim S256x1024x16 ![] bcast_S_S256x1024x16 (constant S_ .f32 0x00000000#32)) (edgeWords lit2)
    (m ((c : Thread nD τ).loc main_arg1)) (fun y => by pointwise) fun q => by rw [we, toInt_small _ (by omega)]
  rw [res_eq]
  funext y
  obtain ⟨b, i, o, rfl⟩ : ∃ (b : Fin 256) (i : Fin 32) (o : Fin 128), y = ix3 b i o := ⟨y 0, y 1, y 2, eq_ix3 y⟩
  pointwise
  rw [messages_at _ _ _ (fun y => by pointwise) (fun e => by rw [ws, toInt_small _ (by omega)]; rfl)]
  simp only [message_at, taken_at _ _ _ ws, taken_at _ _ _ wd, src_edge, dst_edge, fe]
  rfl

end Cert.ReferenceIdeal.Hand
-- ==== Proof.PreFacts.lean ====
/- What the precondition says of the arguments as extended reals. -/
module

public import proofs.«01_k».proof.Proof.Gen.Pre_batch_norm_distributes
public import proofs.«01_k».proof.Proof.Arrays
public import Idealize.ShloMosaic.Lib.ReduceAll

@[expose] public section

noncomputable section

namespace Cert.Pre_batch_norm_distributes.Hand

open Cert.Pre_batch_norm_distributes Cert.Pre_batch_norm_distributes.Gen Cert.Mlp Idealize.ShloMosaic

/-- A conjunction over a finite set is one only if every member is one. -/
theorem fold_andi {ι : Type} (s : Finset ι) (f : ι → BitVec 1) (h : s.fold IntOp.andi (1#1) f = 1#1) :
    ∀ i ∈ s, f i = 1#1 := by
  classical
  induction s using Finset.induction_on with
  | empty => exact fun i hi => absurd hi (Finset.notMem_empty i)
  | insert a s ha ih =>
    rw [Finset.fold_insert ha, IntOp.andi_eq_one] at h
    intro i hi
    rcases Finset.mem_insert.1 hi with rfl | hi
    · exact h.1
    · exact ih h.2 i hi

/-- The same over all members of a finite type. -/
theorem fold_andi_univ {ι : Type} [Fintype ι] {f : ι → BitVec 1} (h : Finset.univ.fold IntOp.andi (1#1) f = 1#1) (i : ι) :
    f i = 1#1 := fold_andi _ f h i (Finset.mem_univ i)

/-- The bit of a decided proposition is one only if the proposition holds. -/
theorem of_bit {p : Prop} [Decidable p] (h : BitVec.ofBool (decide p) = 1#1) : p := by
  by_contra q
  rw [decide_eq_false q] at h
  exact absurd h (by decide)

/-- A number whose absolute value is below infinity is finite. -/
theorem finite_of_bit {x : Ideal .f32}
    (h : BitVec.ofBool (decide (FloatOps.absf x < Ideal.ofBits FTy.f32 2139095040#32)) = 1#1) : Finite x := by
  have e : Ideal.ofBits FTy.f32 2139095040#32 = (⊤ : EReal) := by simp [Ideal.ofBits, Ideal.ieee]
  have q : max (x : EReal) (-x) < ⊤ := e ▸ of_bit h
  obtain ⟨q1, q2⟩ := max_lt_iff.1 q
  exact ⟨fun z => absurd q2 (by rw [z]; simp), q1.ne⟩

/-- The precondition at one channel: its scale is finite, and is not negative or meets finite operands only. -/
theorem channel (x0 : FVec Ideal S256x32x128 .f32) (x1 : FVec Ideal S256x992x16 .f32) (x2 : FVec Ideal S272x256 .f32)
    (x3 x4 x5 : FVec Ideal S256 .f32) (x6 : FVec Ideal S256x128 .f32) (x7 : FVec Ideal S128 .f32) (h : Fin 256)
    (hp : fn (F := Ideal) x0 x1 x2 x3 x4 x5 x6 x7 (ix1 h) = 1#1) :
    Finite (x4 (ix1 h)) ∧ (0 ≤ x4 (ix1 h) ∨ (∀ a b d, Finite (x0 (ix3 a b d))) ∧ (∀ a b d, Finite (x1 (ix3 a b d)))
      ∧ (∀ k, Finite (x2 (ix2 k h))) ∧ Finite (x3 (ix1 h))) := by
  unfold fn fn_part1 at hp
  pointwise at hp
  simp only [IntOp.andi_eq_one, IntOp.ori_eq_one] at hp
  obtain ⟨q, hp⟩ := hp
  refine ⟨finite_of_bit q, hp.imp of_bit ?_⟩
  rintro ⟨⟨⟨q0, q1⟩, q2⟩, q3⟩
  have r0 := fold_andi_univ q0
  have r1 := fold_andi_univ q1
  have r2 := fold_andi_univ q2
  exact ⟨fun a b d => finite_of_bit (r0 (a, b, d)), fun a b d => finite_of_bit (r1 (a, b, d)), fun k => finite_of_bit (r2 k),
    finite_of_bit q3⟩

/-- The precondition as the two networks' equation asks for it. -/
theorem facts_of (x0 : FVec Ideal S256x32x128 .f32) (x1 : FVec Ideal S256x992x16 .f32) (x2 : FVec Ideal S272x256 .f32)
    (x3 x4 x5 : FVec Ideal S256 .f32) (x6 : FVec Ideal S256x128 .f32) (x7 : FVec Ideal S128 .f32)
    (hp : fn (F := Ideal) x0 x1 x2 x3 x4 x5 x6 x7 = fun _ => 1#1) :
    (∀ h, Finite (x4 h)) ∧ ∀ h, 0 ≤ x4 h ∨ (∀ y, Finite (x0 y)) ∧ (∀ y, Finite (x1 y))
      ∧ (∀ k : Fin 272, Finite (x2 (ix2 k (h 0)))) ∧ Finite (x3 h) := by
  have q := fun h : Fin 256 => channel x0 x1 x2 x3 x4 x5 x6 x7 h (congrFun hp _)
  have e1 : ∀ h : S256.Idx, ix1 (h 0) = h := fun h => by funext a; fin_cases a; rfl
  have e3 : ∀ y : S256x32x128.Idx, ix3 (y 0) (y 1) (y 2) = y := fun y => by funext a; fin_cases a <;> rfl
  have e4 : ∀ y : S256x992x16.Idx, ix3 (y 0) (y 1) (y 2) = y := fun y => by funext a; fin_cases a <;> rfl
  refine ⟨fun h => e1 h ▸ (q (h 0)).1, fun h => ?_⟩
  have r := (q (h 0)).2
  have e : ix1 (h 0) = h := e1 h
  refine Or.imp (fun t => e ▸ t) ?_ r
  exact fun t => ⟨fun y => e3 y ▸ t.1 _ _ _, fun y => e4 y ▸ t.2.1 _ _ _, t.2.2.1, e ▸ t.2.2.2⟩

end Cert.Pre_batch_norm_distributes.Hand
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Pre_batch_norm_distributes
public import proofs.«01_k».proof.Proof.KernelValue
public import proofs.«01_k».proof.Proof.RefValue
public import proofs.«01_k».proof.Proof.PreFacts
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs to the end, leaves its arguments unchanged and every counter at zero. -/
theorem frame_kernel : Cert.quiescent_Kernel (hKernel := Cert.Kernel.Gen.facts) :=
  fun m ρ _ => Cert.Kernel.Gen.frame m ρ

/-- So does the kernel over the extended reals. -/
theorem frame_kernel_ideal : Cert.quiescent_KernelIdeal (hKernelIdeal := Cert.KernelIdeal.Gen.facts) :=
  fun m ρ _ => Cert.KernelIdeal.Gen.frame m ρ

/-- So does the reference, whose program declares no semaphore at all. -/
theorem frame_reference_ideal : Cert.quiescent_ReferenceIdeal (hReferenceIdeal := Cert.ReferenceIdeal.Gen.facts) :=
  fun m ρ _ => (θ_run _ _ _).mono
    (fun r h => ⟨fun c => (h c).2, sem_eq_zero_of_no_sems (by decide) r.2⟩) (Cert.ReferenceIdeal.Value.run m ρ)

/-- Arguments that agree and meet the precondition make the two programs' results the same array. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_batch_norm_distributes (hPre_batch_norm_distributes := Cert.Pre_batch_norm_distributes.Gen.facts) m)
    (c : Dev Cert.KernelIdeal.nD)
    (e : Cert.ReferenceIdeal.Hand.result m' c = fun y => Cert.Mlp.netR
      (Cert.KernelIdeal.Hand.nf m c) (Cert.KernelIdeal.Hand.ef m c) (Cert.KernelIdeal.Hand.w1 m c) (Cert.KernelIdeal.Hand.b1 m c)
      (Cert.KernelIdeal.Hand.gam m c) (Cert.KernelIdeal.Hand.bet m c) (Cert.KernelIdeal.Hand.w2 m c) (Cert.KernelIdeal.Hand.b2 m c)
      (y 0) (y 1) (y 2)) :
    Cert.ReferenceIdeal.Hand.result m' c = Cert.KernelIdeal.Hand.result m c := by
  obtain ⟨hγ, hs⟩ := Cert.Pre_batch_norm_distributes.Hand.facts_of _ _ _ _ _ _ _ _ (hpre c)
  rw [e]
  exact funext fun y => (Cert.Mlp.netK_eq_netR _ _ _ _ _ _ _ _ hγ hs (y 0) (y 1) (y 2)).symm

/-- Over the extended reals the kernel and the reference end with the same result. -/
theorem same_result : Cert.algebraic_KernelIdeal_ReferenceIdeal_pre_batch_norm_distributes
    (hKernelIdeal := Cert.KernelIdeal.Gen.facts) (hReferenceIdeal := Cert.ReferenceIdeal.Gen.facts)
    (hPre_batch_norm_distributes := Cert.Pre_batch_norm_distributes.Gen.facts) := by
  pair_intro
  · run_from Cert.KernelIdeal.Value.run_blocks m g
  · run_from Cert.ReferenceIdeal.Value.run m' g'
    refine (Cert.ReferenceIdeal.Hand.final m' c).trans (.trans ?_ (Cert.KernelIdeal.Hand.final m c).symm)
    refine results_eq m m' hpre c ?_
    unfold Cert.ReferenceIdeal.Hand.result
    obtain ⟨e0, e1, e2, e3, e4, e5, e6, e7⟩ := hagree c
    funext y
    simp only [e0, e1, e2, e3, e4, e5, e6, e7]
    try rfl

/-- All claims. -/
theorem claim : Cert.Claim :=
  ⟨Cert.Kernel.Gen.facts, Cert.KernelIdeal.Gen.facts, Cert.ReferenceIdeal.Gen.facts, Cert.Pre_batch_norm_distributes.Gen.facts,
    frame_kernel, frame_kernel_ideal, fun m ρ _ => Cert.KernelIdeal.Gen.frame m ρ, frame_reference_ideal,
    fun m ρ _ => frame_reference_ideal m ρ trivial, trivial, same_result⟩

end Cert.Proof

end
